-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x32768 : Shape := ⟨3, ![4, 2048, 32768]⟩
abbrev S4x2048x1 : Shape := ⟨3, ![4, 2048, 1]⟩
abbrev S32768x8192 : Shape := ⟨2, ![32768, 8192]⟩
abbrev S8192 : Shape := ⟨1, ![8192]⟩
abbrev S4x2048x8192 : Shape := ⟨3, ![4, 2048, 8192]⟩
abbrev S8192x32768 : Shape := ⟨2, ![8192, 32768]⟩
abbrev S8192x1 : Shape := ⟨2, ![8192, 1]⟩
abbrev S1x8192 : Shape := ⟨2, ![1, 8192]⟩
abbrev S8192x8192 : Shape := ⟨2, ![8192, 8192]⟩
abbrev S1024x2048 : Shape := ⟨2, ![1024, 2048]⟩
abbrev S1024x1 : Shape := ⟨2, ![1024, 1]⟩
abbrev S2048x2048 : Shape := ⟨2, ![2048, 2048]⟩
abbrev S1x2048 : Shape := ⟨2, ![1, 2048]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x32768, .fp8e4m3⟩
  | .hbm, ⟨1, _⟩ => ⟨S4x2048x1, .f32⟩
  | .hbm, ⟨2, _⟩ => ⟨S32768x8192, .fp8e4m3⟩
  | .hbm, ⟨3, _⟩ => ⟨S8192, .f32⟩
  | .hbm, ⟨4, _⟩ => ⟨S4x2048x8192, .bf16⟩
  | .hbm, ⟨5, _⟩ => ⟨S8192x32768, .fp8e4m3⟩
  | .hbm, ⟨6, _⟩ => ⟨S8192x1, .f32⟩
  | .hbm, ⟨7, _⟩ => ⟨S1x8192, .f32⟩
  | .hbm, ⟨8, _⟩ => ⟨S8192x8192, .bf16⟩
  | .hbm, ⟨9, _⟩ => ⟨S8192x8192, .bf16⟩
  | .hbm, ⟨10, _⟩ => ⟨S4x2048x8192, .bf16⟩
  | .local _ .vmem, ⟨0, _⟩ => ⟨S1024x2048, .fp8e4m3⟩
  | .local _ .vmem, ⟨1, _⟩ => ⟨S1024x2048, .fp8e4m3⟩
  | .local _ .vmem, ⟨2, _⟩ => ⟨S1024x1, .f32⟩
  | .local _ .vmem, ⟨3, _⟩ => ⟨S1024x1, .f32⟩
  | .local _ .vmem, ⟨4, _⟩ => ⟨S2048x2048, .fp8e4m3⟩
  | .local _ .vmem, ⟨5, _⟩ => ⟨S2048x2048, .fp8e4m3⟩
  | .local _ .vmem, ⟨6, _⟩ => ⟨S1x2048, .f32⟩
  | .local _ .vmem, ⟨7, _⟩ => ⟨S1x2048, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .f32⟩
  | _, _ => ⟨S4x2048x32768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S4x2048x32768 : Shape := ⟨3, ![4, 2048, 32768]⟩
abbrev S4x2048x1 : Shape := ⟨3, ![4, 2048, 1]⟩
abbrev S32768x8192 : Shape := ⟨2, ![32768, 8192]⟩
abbrev S8192 : Shape := ⟨1, ![8192]⟩
abbrev S4x2048x8192 : Shape := ⟨3, ![4, 2048, 8192]⟩
abbrev S1x1x8192 : Shape := ⟨3, ![1, 1, 8192]⟩

abbrev nBuf : Space → Nat
  | .hbm => 14
  | .vmem => 3
  | .smem => 0
  | _ => 0

abbrev bufTy : (tb : Table) → Fin (tcTables nBuf tb) → BufTy
  | .hbm, ⟨0, _⟩ => ⟨S4x2048x32768, .fp8e4m3⟩
  | .hbm, ⟨1, _⟩ => ⟨S4x2048x1, .f32⟩
  | .hbm, ⟨2, _⟩ => ⟨S32768x8192, .fp8e4m3⟩
  | .hbm, ⟨3, _⟩ => ⟨S8192, .f32⟩
  | .hbm, ⟨4, _⟩ => ⟨S4x2048x8192, .bf16⟩
  | .hbm, ⟨5, _⟩ => ⟨S4x2048x8192, .f32⟩
  | .hbm, ⟨6, _⟩ => ⟨S4x2048x8192, .f32⟩
  | .hbm, ⟨7, _⟩ => ⟨S4x2048x8192, .f32⟩
  | .hbm, ⟨8, _⟩ => ⟨S1x1x8192, .f32⟩
  | .hbm, ⟨9, _⟩ => ⟨S4x2048x8192, .f32⟩
  | .hbm, ⟨10, _⟩ => ⟨S4x2048x8192, .f32⟩
  | .hbm, ⟨11, _⟩ => ⟨S4x2048x8192, .f32⟩
  | .hbm, ⟨12, _⟩ => ⟨S4x2048x8192, .f32⟩
  | .hbm, ⟨13, _⟩ => ⟨S4x2048x8192, .bf16⟩
  | .local _ .vmem, ⟨0, _⟩ => ⟨S4x2048x32768, .fp8e4m3⟩
  | .local _ .vmem, ⟨1, _⟩ => ⟨S32768x8192, .fp8e4m3⟩
  | .local _ .vmem, ⟨2, _⟩ => ⟨S4x2048x8192, .f32⟩
  | _, _ => ⟨S4x2048x32768, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x2048x32768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Spec.lean ====
/-
  The mathematics of the down projection over the extended reals, free of any program: one entry of the result is
  `(∑ₖ x[b,s,k]·w[k,n]) · x_scale[b,s] · w_scale[n] + residual[b,s,n]`. The same with the two leading axes as one row
  axis of 8192, and the lemma that turns the one into the other through the row-major reshapes.
-/
module

public import proofs.«01_k».proof.Defs
public import Idealize.ShloMosaic.Lib.Pointwise
public import Idealize.ShloMosaic.Lib.Pipeline.Value

@[expose] public section

noncomputable section

namespace Cert.Math

open Idealize.ShloMosaic

abbrev X3 : Shape := ⟨3, ![4, 2048, 32768]⟩
abbrev X2 : Shape := ⟨2, ![8192, 32768]⟩
abbrev W2 : Shape := ⟨2, ![32768, 8192]⟩
abbrev A3 : Shape := ⟨3, ![4, 2048, 1]⟩
abbrev A2 : Shape := ⟨2, ![8192, 1]⟩
abbrev B1 : Shape := ⟨1, ![8192]⟩
abbrev B2 : Shape := ⟨2, ![1, 8192]⟩
abbrev R3 : Shape := ⟨3, ![4, 2048, 8192]⟩
abbrev R2 : Shape := ⟨2, ![8192, 8192]⟩

/-- One term of the contraction at row `r`, column `q`: `x[r,k]·w[k,q]`, and zero past the contracted axis. -/
def term (X : X2.Idx → EReal) (W : W2.Idx → EReal) (r q : Fin 8192) (k : ℕ) : EReal :=
  if h : k < 32768 then X (ix2 r ⟨k, h⟩) * W (ix2 ⟨k, h⟩ q) else 0

/-- The whole result with the leading axes as one: contraction, both scales, residual. -/
def rows (X : X2.Idx → EReal) (A : A2.Idx → EReal) (W : W2.Idx → EReal) (B : B2.Idx → EReal) (R : R2.Idx → EReal) :
    R2.Idx → EReal :=
  fun i => (∑ k ∈ Finset.range 32768, term X W (i 0) (i 1) k) * A (ix2 (i 0) 0) * B (ix2 0 (i 1)) + R i

/-- The whole result: contraction, both scales, residual. -/
def down (x : X3.Idx → EReal) (xs : A3.Idx → EReal) (w : W2.Idx → EReal) (ws : B1.Idx → EReal) (res : R3.Idx → EReal) :
    R3.Idx → EReal :=
  fun j => (∑ k : Fin 32768, x (ix3 (j 0) (j 1) k) * w (ix2 k (j 2))) * xs (ix3 (j 0) (j 1) 0) * ws (ix1 (j 2)) + res j

/-- Sums over consecutive stretches of the contracted axis add up: the first `n` blocks of 2048 terms and the next one. -/
theorem sum_block (f : ℕ → EReal) (n : ℕ) :
    (∑ k ∈ Finset.range (2048 * n), f k) + ∑ k : Fin 2048, f (2048 * n + k.val) = ∑ k ∈ Finset.range (2048 * (n + 1)), f k := by
  rw [Nat.mul_succ, Finset.sum_range_add, Finset.sum_range (fun k => f (2048 * n + k))]

/-- Reshaping the operands to rows, computing on rows and reshaping back is computing on the three-axis arrays:
    row `2048·b + s` of the reshaped arrays is row `(b, s)`. -/
theorem rows_reshape (x : X3.Idx → EReal) (xs : A3.Idx → EReal) (w : W2.Idx → EReal) (ws : B1.Idx → EReal) (res : R3.Idx → EReal)
    (hx : X3.ShapeCasts X2) (ha : A3.ShapeCasts A2) (hb : B1.ShapeCasts B2) (hr : R3.ShapeCasts R2) (ho : R2.ShapeCasts R3) :
    shapeCast R3 (rows (shapeCast X2 x hx) (shapeCast A2 xs ha) w (shapeCast B2 ws hb) (shapeCast R2 res hr)) ho
      = down x xs w ws res := by
  funext j
  have h0 : (j 0).val < 4 := (j 0).isLt
  have h1 : (j 1).val < 2048 := (j 1).isLt
  have h2 : (j 2).val < 8192 := (j 2).isLt
  have hrow : (j 0).val * 2048 + (j 1).val < 8192 := by omega
  rw [shapeCast_apply _ ho j (ix2 ⟨(j 0).val * 2048 + (j 1).val, hrow⟩ (j 2)) (by
    rw [rowMajor_val2 _ 8192 rfl, rowMajor_val3 _ (2048 * 8192) 8192 rfl rfl]
    show ((j 0).val * 2048 + (j 1).val) * 8192 + (j 2).val = _
    omega)]
  unfold rows down
  have er : shapeCast R2 res hr (ix2 ⟨(j 0).val * 2048 + (j 1).val, hrow⟩ (j 2)) = res j :=
    shapeCast_apply _ hr _ j (by
      rw [rowMajor_val2 _ 8192 rfl, rowMajor_val3 _ (2048 * 8192) 8192 rfl rfl]
      show _ = ((j 0).val * 2048 + (j 1).val) * 8192 + (j 2).val
      omega)
  have ea : shapeCast A2 xs ha (ix2 ⟨(j 0).val * 2048 + (j 1).val, hrow⟩ 0) = xs (ix3 (j 0) (j 1) 0) :=
    shapeCast_apply _ ha _ _ (by
      rw [rowMajor_val2 _ 1 rfl, rowMajor_val3 _ 2048 1 rfl rfl]
      show (j 0).val * 2048 + (j 1).val * 1 + 0 = ((j 0).val * 2048 + (j 1).val) * 1 + 0
      omega)
  have eb : shapeCast B2 ws hb (ix2 0 (j 2)) = ws (ix1 (j 2)) :=
    shapeCast_apply _ hb _ _ (by
      rw [rowMajor_val2 _ 8192 rfl, rowMajor_val1]
      show (j 2).val = 0 * 8192 + (j 2).val
      omega)
  have es : (∑ k ∈ Finset.range 32768, term (shapeCast X2 x hx) w ⟨(j 0).val * 2048 + (j 1).val, hrow⟩ (j 2) k)
      = ∑ k : Fin 32768, x (ix3 (j 0) (j 1) k) * w (ix2 k (j 2)) := by
    rw [Finset.sum_range]
    refine Finset.sum_congr rfl fun k _ => ?_
    unfold term
    rw [dif_pos k.isLt]
    congr 1
    exact shapeCast_apply _ hx _ _ (by
      rw [rowMajor_val2 _ 32768 rfl, rowMajor_val3 _ (2048 * 32768) 32768 rfl rfl]
      show (j 0).val * (2048 * 32768) + (j 1).val * 32768 + k.val = ((j 0).val * 2048 + (j 1).val) * 32768 + k.val
      omega)
  exact congrArg₂ (· + ·) (congrArg₂ (· * ·) (congrArg₂ (· * ·) es ea) eb) er

end Cert.Math

end
-- ==== Proof.Blocks.lean ====
/-
  What one step of the kernel leaves in its accumulator and in its output block, as plain vector expressions of the
  blocks it was given: the product of the two fp8 blocks is stored at the first reduction step and added at every later
  one; at the last, the accumulator is multiplied by the two scales, the residual is added, and the sum is stored as bf16.
-/
module

public import proofs.«01_k».proof.Defs
public import proofs.«01_k».proof.Proof.Gen.KernelIdeal.Frame
public import Idealize.ShloMosaic.Lib.Pipeline.Value
public import Idealize.ShloMosaic.Lib.Tactic

@[expose] public section

noncomputable section

namespace Cert.KernelIdeal.Val

open Cert.KernelIdeal Cert.KernelIdeal.Gen Idealize.ShloMosaic Idealize.ShloMosaic.TcCoe Idealize.SL.Sem

variable {F : FTy → Type} [FloatOps F]

/-- Both offsets of a whole-block access are zero. -/
theorem hz : (![0, 0] : Fin 2 → Nat) = fun _ => 0 := funext fun a => by fin_cases a <;> rfl

/-- The product of an activation block and a weight block, accumulated from zero. -/
def part (x0 : Vec F S1024x2048 .fp8e4m3) (x2 : Vec F S2048x2048 .fp8e4m3) : Vec F S1024x2048 .f32 :=
  matmul dot_S1024x2048_S2048x2048_S1024x2048_1_0_0_1_n_n none x0 x2 (constant S1024x2048 .f32 0x00000000#32)

/-- The finished block: accumulator times row scale times column scale, plus the residual, as bf16. -/
def epilogue (a : Vec F S1024x2048 .f32) (x1 : Vec F S1024x1 .f32) (x3 : Vec F S1x2048 .f32) (x4 : Vec F S1024x2048 .bf16) :
    Vec F S1024x2048 .bf16 :=
  truncf .bf16 (addf (mulf (mulf a (broadcastTo S1024x2048 x1 broadcasts_S1024x1_S1024x2048))
    (broadcastTo S1024x2048 x3 broadcasts_S1x2048_S1024x2048)) (extf .f32 x4 (by decide))) (by decide)

/-- The first reduction step of a block stores the block product in the accumulator. -/
theorem scratch_A (c : Dev nD) (i : grid0.Coords) (arg3 : Memref sig .tc .vmem S1024x2048 .fp8e4m3) (harg3 : arg3.IsWhole)
    (arg4 : Memref sig .tc .vmem S1024x1 .f32) (harg4 : arg4.IsWhole) (arg5 : Memref sig .tc .vmem S2048x2048 .fp8e4m3) (harg5 : arg5.IsWhole)
    (arg6 : Memref sig .tc .vmem S1x2048 .f32) (harg6 : arg6.IsWhole) (arg7 : Memref sig .tc .vmem S1024x2048 .bf16) (harg7 : arg7.IsWhole)
    (arg8 : Memref sig .tc .vmem S1024x2048 .bf16) (harg8 : arg8.IsWhole) (arg9 : Memref sig .tc .vmem S1024x2048 .f32) (harg9 : arg9.IsWhole)
    (hc0 : cond0_0 i) (hc1 : ¬cond0_1 i) (hc2 : ¬cond0_2 i)
    (x0 : Vec F S1024x2048 .fp8e4m3) (x1 : Vec F S1024x1 .f32) (x2 : Vec F S2048x2048 .fp8e4m3) (x3 : Vec F S1x2048 .f32)
    (x4 : Vec F S1024x2048 .bf16) :
    sout0_A_0 c i arg3 harg3 arg4 harg4 arg5 harg5 arg6 harg6 arg7 harg7 arg8 harg8 arg9 harg9 hc0 hc1 hc2 x0 x1 x2 x3 x4 = part x0 x2 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3 x4)]
  unfold kernelRun0_A
  dsimp only
  rw [View.canon_unit_zero hz]
  unfold k0_pay2 k0_pay1 part
  simp only [View.readAt_eq_ld, harg3.read_unread, harg5.read_unread, View.ld_unit_zero (S := S1024x2048) hz, View.ld_unit_zero (S := S2048x2048) hz,
    View.ld_unit_zero (S := S1024x1) hz, View.ld_unit_zero (S := S1x2048) hz, shapeCast_self]

/-- A middle reduction step adds the block product to what the accumulator held. -/
theorem scratch_B (c : Dev nD) (i : grid0.Coords) (arg3 : Memref sig .tc .vmem S1024x2048 .fp8e4m3) (harg3 : arg3.IsWhole)
    (arg4 : Memref sig .tc .vmem S1024x1 .f32) (harg4 : arg4.IsWhole) (arg5 : Memref sig .tc .vmem S2048x2048 .fp8e4m3) (harg5 : arg5.IsWhole)
    (arg6 : Memref sig .tc .vmem S1x2048 .f32) (harg6 : arg6.IsWhole) (arg7 : Memref sig .tc .vmem S1024x2048 .bf16) (harg7 : arg7.IsWhole)
    (arg8 : Memref sig .tc .vmem S1024x2048 .bf16) (harg8 : arg8.IsWhole) (arg9 : Memref sig .tc .vmem S1024x2048 .f32) (harg9 : arg9.IsWhole)
    (hc0 : ¬cond0_0 i) (hc1 : cond0_1 i) (hc2 : ¬cond0_2 i)
    (x0 : Vec F S1024x2048 .fp8e4m3) (x1 : Vec F S1024x1 .f32) (x2 : Vec F S2048x2048 .fp8e4m3) (x3 : Vec F S1x2048 .f32)
    (x4 : Vec F S1024x2048 .bf16) (xs0 : Vec F S1024x2048 .f32) :
    sout0_B_0 c i arg3 harg3 arg4 harg4 arg5 harg5 arg6 harg6 arg7 harg7 arg8 harg8 arg9 harg9 hc0 hc1 hc2 x0 x1 x2 x3 x4 xs0 = addf xs0 (part x0 x2) := by
  unfold sout0_B_0
  rw [View.read_writes_eq_canon _ _ _ (scover0_B_0 c i arg3 harg3 arg4 harg4 arg5 harg5 arg6 harg6 arg7 harg7 arg8 harg8 arg9 harg9 hc0 hc1 hc2 x0 x1 x2 x3 x4 xs0)]
  unfold kernelRun0_B
  dsimp only
  rw [View.canon_unit_zero hz]
  unfold k0_pay3 k0_pay1 part
  simp only [View.readAt_eq_ld, harg3.read_unread, harg5.read_unread, harg9.read_unread, View.ld_unit_zero (S := S1024x2048) hz, View.ld_unit_zero (S := S2048x2048) hz,
    View.ld_unit_zero (S := S1024x1) hz, View.ld_unit_zero (S := S1x2048) hz, shapeCast_self]

/-- The last reduction step too adds the block product to what the accumulator held. -/
theorem scratch_C (c : Dev nD) (i : grid0.Coords) (arg3 : Memref sig .tc .vmem S1024x2048 .fp8e4m3) (harg3 : arg3.IsWhole)
    (arg4 : Memref sig .tc .vmem S1024x1 .f32) (harg4 : arg4.IsWhole) (arg5 : Memref sig .tc .vmem S2048x2048 .fp8e4m3) (harg5 : arg5.IsWhole)
    (arg6 : Memref sig .tc .vmem S1x2048 .f32) (harg6 : arg6.IsWhole) (arg7 : Memref sig .tc .vmem S1024x2048 .bf16) (harg7 : arg7.IsWhole)
    (arg8 : Memref sig .tc .vmem S1024x2048 .bf16) (harg8 : arg8.IsWhole) (arg9 : Memref sig .tc .vmem S1024x2048 .f32) (harg9 : arg9.IsWhole)
    (hc0 : ¬cond0_0 i) (hc1 : cond0_1 i) (hc2 : cond0_2 i)
    (x0 : Vec F S1024x2048 .fp8e4m3) (x1 : Vec F S1024x1 .f32) (x2 : Vec F S2048x2048 .fp8e4m3) (x3 : Vec F S1x2048 .f32)
    (x4 : Vec F S1024x2048 .bf16) (xs0 : Vec F S1024x2048 .f32) :
    sout0_C_0 c i arg3 harg3 arg4 harg4 arg5 harg5 arg6 harg6 arg7 harg7 arg8 harg8 arg9 harg9 hc0 hc1 hc2 x0 x1 x2 x3 x4 xs0 = addf xs0 (part x0 x2) := by
  unfold sout0_C_0
  rw [View.read_writes_eq_canon _ _ _ (scover0_C_0 c i arg3 harg3 arg4 harg4 arg5 harg5 arg6 harg6 arg7 harg7 arg8 harg8 arg9 harg9 hc0 hc1 hc2 x0 x1 x2 x3 x4 xs0)]
  unfold kernelRun0_C
  dsimp only
  sl_unfold_words
  rw [View.canon_unit_zero hz]
  unfold k0_pay3 k0_pay1 part
  simp only [View.readAt_eq_ld, harg3.read_unread, harg5.read_unread, harg9.read_unread, View.ld_unit_zero (S := S1024x2048) hz, View.ld_unit_zero (S := S2048x2048) hz,
    View.ld_unit_zero (S := S1024x1) hz, View.ld_unit_zero (S := S1x2048) hz, shapeCast_self]

/-- The last reduction step stores in the output block the finished accumulator, scaled and with the residual added. -/
theorem out_C (c : Dev nD) (i : grid0.Coords) (arg3 : Memref sig .tc .vmem S1024x2048 .fp8e4m3) (harg3 : arg3.IsWhole)
    (arg4 : Memref sig .tc .vmem S1024x1 .f32) (harg4 : arg4.IsWhole) (arg5 : Memref sig .tc .vmem S2048x2048 .fp8e4m3) (harg5 : arg5.IsWhole)
    (arg6 : Memref sig .tc .vmem S1x2048 .f32) (harg6 : arg6.IsWhole) (arg7 : Memref sig .tc .vmem S1024x2048 .bf16) (harg7 : arg7.IsWhole)
    (arg8 : Memref sig .tc .vmem S1024x2048 .bf16) (harg8 : arg8.IsWhole) (arg9 : Memref sig .tc .vmem S1024x2048 .f32) (harg9 : arg9.IsWhole)
    (hc0 : ¬cond0_0 i) (hc1 : cond0_1 i) (hc2 : cond0_2 i)
    (x0 : Vec F S1024x2048 .fp8e4m3) (x1 : Vec F S1024x1 .f32) (x2 : Vec F S2048x2048 .fp8e4m3) (x3 : Vec F S1x2048 .f32)
    (x4 : Vec F S1024x2048 .bf16) (xs0 : Vec F S1024x2048 .f32) :
    out0_C_5 c i arg3 harg3 arg4 harg4 arg5 harg5 arg6 harg6 arg7 harg7 arg8 harg8 arg9 harg9 hc0 hc1 hc2 x0 x1 x2 x3 x4 xs0 = epilogue (addf xs0 (part x0 x2)) x1 x3 x4 := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 x4 xs0)]
  unfold kernelRun0_C
  dsimp only
  sl_unfold_words
  rw [View.canon_unit_zero hz, View.readCov_unit_zero (S := S1024x2048) _ hz]
  unfold k0_pay4 k0_pay3 k0_pay1 epilogue part
  simp only [View.readAt_eq_ld, harg3.read_unread, harg4.read_unread, harg5.read_unread, harg6.read_unread, harg7.read_unread, harg9.read_unread, View.ld_unit_zero (S := S1024x2048) hz, View.ld_unit_zero (S := S2048x2048) hz,
    View.ld_unit_zero (S := S1024x1) hz, View.ld_unit_zero (S := S1x2048) hz, shapeCast_self]

end Cert.KernelIdeal.Val

end
-- ==== Proof.Fold.lean ====
/-
  The accumulator over the extended reals: after the reduction step `k` of a block it holds, at every place, the sum of
  the first `2048·(k+1)` terms of the contraction. By induction on the grid point; the grid runs through the reduction
  steps innermost, 16 for each of the 32 output blocks.
-/
module

public import proofs.«01_k».proof.Proof.Spec
public import proofs.«01_k».proof.Proof.Blocks

@[expose] public section

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ)

/-- The activation rows, as the pipeline finds them. -/
abbrev arrX (c : Dev nD) : Math.X2.Idx → EReal := V (F := Ideal) m c main_v0
/-- The row scales, as the pipeline finds them. -/
abbrev arrA (c : Dev nD) : Math.A2.Idx → EReal := V (F := Ideal) m c main_v1
/-- The weights, as the pipeline finds them. -/
abbrev arrW (c : Dev nD) : Math.W2.Idx → EReal := V (F := Ideal) m c main_arg2
/-- The column scales, as the pipeline finds them. -/
abbrev arrB (c : Dev nD) : Math.B2.Idx → EReal := V (F := Ideal) m c main_v2
/-- The residual rows, as the pipeline finds them. -/
abbrev arrR (c : Dev nD) : Math.R2.Idx → EReal := V (F := Ideal) m c main_v3

/-- The activation block at point `t`: row block `t / 64`, reduction step `t % 16`. -/
theorem idx0 : ∀ t : Fin cfg0.N, win0_0.index t (0 : Fin 2) = t.val / 64 ∧ win0_0.index t (1 : Fin 2) = t.val % 16 :=
  (by decide +kernel : ∀ t : Fin grid0.N, _)
/-- The row-scale block at point `t`: row block `t / 64`. -/
theorem idx1 : ∀ t : Fin cfg0.N, win0_1.index t (0 : Fin 2) = t.val / 64 ∧ win0_1.index t (1 : Fin 2) = 0 :=
  (by decide +kernel : ∀ t : Fin grid0.N, _)
/-- The weight block at point `t`: reduction step `t % 16`, column block `t / 16 % 4`. -/
theorem idx2 : ∀ t : Fin cfg0.N, win0_2.index t (0 : Fin 2) = t.val % 16 ∧ win0_2.index t (1 : Fin 2) = t.val / 16 % 4 :=
  (by decide +kernel : ∀ t : Fin grid0.N, _)
/-- The column-scale block at point `t`: column block `t / 16 % 4`. -/
theorem idx3 : ∀ t : Fin cfg0.N, win0_3.index t (0 : Fin 2) = 0 ∧ win0_3.index t (1 : Fin 2) = t.val / 16 % 4 :=
  (by decide +kernel : ∀ t : Fin grid0.N, _)
/-- The residual block at point `t`: row block `t / 64`, column block `t / 16 % 4`. -/
theorem idx4 : ∀ t : Fin cfg0.N, win0_4.index t (0 : Fin 2) = t.val / 64 ∧ win0_4.index t (1 : Fin 2) = t.val / 16 % 4 :=
  (by decide +kernel : ∀ t : Fin grid0.N, _)

/-- The activation block at point `t`, read in the whole array. -/
theorem blk0 (c : Dev nD) (t : Fin cfg0.N) (y : S1024x2048.Idx) (i : Math.X2.Idx)
    (h0 : (i 0).val = 1024 * (t.val / 64) + (y 0).val) (h1 : (i 1).val = 2048 * (t.val % 16) + (y 1).val) :
    iblk (F := Ideal) m c 0 t y = arrX m c i := by
  unfold iblk
  rw [View.read_apply]
  show V (F := Ideal) m c main_v0 _ = V (F := Ideal) m c main_v0 _
  congr 1
  obtain ⟨e0, e1⟩ := idx0 t
  funext a
  apply Fin.ext
  match a with
  | ⟨0, _⟩ => show win0_0.index t (0 : Fin 2) * 1024 + 1 * (y 0).val = (i 0).val; rw [e0, h0]; omega
  | ⟨1, _⟩ => show win0_0.index t (1 : Fin 2) * 2048 + 1 * (y 1).val = (i 1).val; rw [e1, h1]; omega

/-- The row-scale block at point `t`, read in the whole array. -/
theorem blk1 (c : Dev nD) (t : Fin cfg0.N) (y : S1024x1.Idx) (i : Math.A2.Idx)
    (h0 : (i 0).val = 1024 * (t.val / 64) + (y 0).val) :
    iblk (F := Ideal) m c 1 t y = arrA m c i := by
  unfold iblk
  rw [View.read_apply]
  show V (F := Ideal) m c main_v1 _ = V (F := Ideal) m c main_v1 _
  congr 1
  obtain ⟨e0, e1⟩ := idx1 t
  have hi : (i 1).val < 1 := (i 1).isLt
  have hy : (y 1).val < 1 := (y 1).isLt
  funext a
  apply Fin.ext
  match a with
  | ⟨0, _⟩ => show win0_1.index t (0 : Fin 2) * 1024 + 1 * (y 0).val = (i 0).val; rw [e0, h0]; omega
  | ⟨1, _⟩ => show win0_1.index t (1 : Fin 2) * 1 + 1 * (y 1).val = (i 1).val; rw [e1]; omega

/-- The weight block at point `t`, read in the whole array. -/
theorem blk2 (c : Dev nD) (t : Fin cfg0.N) (y : S2048x2048.Idx) (i : Math.W2.Idx)
    (h0 : (i 0).val = 2048 * (t.val % 16) + (y 0).val) (h1 : (i 1).val = 2048 * (t.val / 16 % 4) + (y 1).val) :
    iblk (F := Ideal) m c 2 t y = arrW m c i := by
  unfold iblk
  rw [View.read_apply]
  show V (F := Ideal) m c main_arg2 _ = V (F := Ideal) m c main_arg2 _
  congr 1
  obtain ⟨e0, e1⟩ := idx2 t
  funext a
  apply Fin.ext
  match a with
  | ⟨0, _⟩ => show win0_2.index t (0 : Fin 2) * 2048 + 1 * (y 0).val = (i 0).val; rw [e0, h0]; omega
  | ⟨1, _⟩ => show win0_2.index t (1 : Fin 2) * 2048 + 1 * (y 1).val = (i 1).val; rw [e1, h1]; omega

/-- The column-scale block at point `t`, read in the whole array. -/
theorem blk3 (c : Dev nD) (t : Fin cfg0.N) (y : S1x2048.Idx) (i : Math.B2.Idx)
    (h1 : (i 1).val = 2048 * (t.val / 16 % 4) + (y 1).val) :
    iblk (F := Ideal) m c 3 t y = arrB m c i := by
  unfold iblk
  rw [View.read_apply]
  show V (F := Ideal) m c main_v2 _ = V (F := Ideal) m c main_v2 _
  congr 1
  obtain ⟨e0, e1⟩ := idx3 t
  have hi : (i 0).val < 1 := (i 0).isLt
  have hy : (y 0).val < 1 := (y 0).isLt
  funext a
  apply Fin.ext
  match a with
  | ⟨0, _⟩ => show win0_3.index t (0 : Fin 2) * 1 + 1 * (y 0).val = (i 0).val; rw [e0]; omega
  | ⟨1, _⟩ => show win0_3.index t (1 : Fin 2) * 2048 + 1 * (y 1).val = (i 1).val; rw [e1, h1]; omega

/-- The residual block at point `t`, read in the whole array. -/
theorem blk4 (c : Dev nD) (t : Fin cfg0.N) (y : S1024x2048.Idx) (i : Math.R2.Idx)
    (h0 : (i 0).val = 1024 * (t.val / 64) + (y 0).val) (h1 : (i 1).val = 2048 * (t.val / 16 % 4) + (y 1).val) :
    iblk (F := Ideal) m c 4 t y = arrR m c i := by
  unfold iblk
  rw [View.read_apply]
  show V (F := Ideal) m c main_v3 _ = V (F := Ideal) m c main_v3 _
  congr 1
  obtain ⟨e0, e1⟩ := idx4 t
  funext a
  apply Fin.ext
  match a with
  | ⟨0, _⟩ => show win0_4.index t (0 : Fin 2) * 1024 + 1 * (y 0).val = (i 0).val; rw [e0, h0]; omega
  | ⟨1, _⟩ => show win0_4.index t (1 : Fin 2) * 2048 + 1 * (y 1).val = (i 1).val; rw [e1, h1]; omega

/-- A block product over the extended reals, at a place: the sum of the 2048 products of its row and column. -/
theorem part_apply (x0 : Vec Ideal S1024x2048 .fp8e4m3) (x2 : Vec Ideal S2048x2048 .fp8e4m3) (y : S1024x2048.Idx) :
    part x0 x2 y = ∑ k : Fin 2048, (x0 (ix2 (y 0) k) : EReal) * x2 (ix2 k (y 1)) := by
  unfold part
  pointwise

/-- The block product of point `t` at place `y` is the stretch of contraction terms of that reduction step. -/
theorem part_blk (c : Dev nD) (t : Fin cfg0.N) (y : S1024x2048.Idx) (r q : Fin 8192)
    (hr : r.val = 1024 * (t.val / 64) + (y 0).val) (hq : q.val = 2048 * (t.val / 16 % 4) + (y 1).val) :
    part (F := Ideal) (iblk m c 0 t) (iblk m c 2 t) y
      = ∑ k : Fin 2048, Math.term (arrX m c) (arrW m c) r q (2048 * (t.val % 16) + k.val) := by
  rw [part_apply]
  refine Finset.sum_congr rfl fun k _ => ?_
  have hk : 2048 * (t.val % 16) + k.val < 32768 := by have := k.isLt; omega
  unfold Math.term
  rw [dif_pos hk, blk0 m c t (ix2 (y 0) k) (ix2 r ⟨_, hk⟩) hr rfl, blk2 m c t (ix2 k (y 1)) (ix2 ⟨_, hk⟩ q) rfl hq]

/-- The accumulator after point `n`, at place `y`: the first `2048·(n % 16 + 1)` terms of the contraction. -/
theorem scratch_eq (c : Dev nD) : ∀ (n : ℕ) (hn : n < cfg0.N) (y : S1024x2048.Idx) (r q : Fin 8192)
    (_ : r.val = 1024 * (n / 64) + (y 0).val) (_ : q.val = 2048 * (n / 16 % 4) + (y 1).val),
    (outsAt0 (F := Ideal) m c n hn).2 y
      = ∑ k ∈ Finset.range (2048 * (n % 16 + 1)), Math.term (arrX m c) (arrW m c) r q k := by
  intro n
  induction n with
  | zero =>
    intro hn y r q hr hq
    rw [outsAt0_A m c ⟨0, hn⟩ (Nat.zero_mod _) (by dsimp only; omega) (by dsimp only; omega)]
    dsimp only
    rw [scratch_A, part_blk m c ⟨0, hn⟩ y r q hr hq, ← Math.sum_block]
    simp
  | succ n ih =>
    intro hn y r q hr hq
    by_cases h0 : (n + 1) % 16 = 0
    · rw [outsAt0_A m c ⟨n + 1, hn⟩ h0 (by dsimp only; omega) (by dsimp only; omega)]
      dsimp only
      rw [scratch_A, part_blk m c ⟨n + 1, hn⟩ y r q hr hq, ← Math.sum_block]
      simp [h0]
    · have step : addf (outsAt0 (F := Ideal) m c n (Nat.lt_of_succ_lt hn)).2
          (part (iblk m c 0 ⟨n + 1, hn⟩) (iblk m c 2 ⟨n + 1, hn⟩)) y
          = ∑ k ∈ Finset.range (2048 * ((n + 1) % 16 + 1)), Math.term (arrX m c) (arrW m c) r q k := by
        rw [ValueIdx.addf_apply, part_blk m c ⟨n + 1, hn⟩ y r q hr hq,
          ih (Nat.lt_of_succ_lt hn) y r q (by omega) (by omega),
          show n % 16 + 1 = (n + 1) % 16 by omega, ← Math.sum_block]
      by_cases h2 : (n + 1) % 16 = 15
      · rw [outsAt0_C m c ⟨n + 1, hn⟩ h0 (by dsimp only; omega) h2]
        dsimp only
        rw [scratch_C]
        exact step
      · rw [outsAt0_B m c ⟨n + 1, hn⟩ h0 (by dsimp only; omega) h2]
        dsimp only
        rw [scratch_B]
        exact step

end Cert.KernelIdeal.Val

end
-- ==== Proof.Result.lean ====
/-
  What the kernel program leaves in its result over the extended reals: every output block is written back once, after
  its last reduction step, and the blocks tile the output array; so the array holds `Math.rows` of the reshaped
  arguments, and the program's result is its reshape.
-/
module

public import proofs.«01_k».proof.Proof.Fold

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The output window's block at point `t`: row block `t / 64`, column block `t / 16 % 4`. -/
theorem idx5 : ∀ t : Fin cfg0.N, win0_5.index t (0 : Fin 2) = t.val / 64 ∧ win0_5.index t (1 : Fin 2) = t.val / 16 % 4 :=
  (by decide +kernel : ∀ t : Fin grid0.N, _)

/-- The finished block over the extended reals, at a place. -/
theorem epilogue_apply (a : Vec Ideal S1024x2048 .f32) (x1 : Vec Ideal S1024x1 .f32) (x3 : Vec Ideal S1x2048 .f32)
    (x4 : Vec Ideal S1024x2048 .bf16) (y : S1024x2048.Idx) :
    epilogue a x1 x3 x4 y = ((a y : EReal) * x1 (ix2 (y 0) 0) * x3 (ix2 0 (y 1)) + x4 y : EReal) := by
  have e1 : broadcastTo S1024x2048 x1 broadcasts_S1024x1_S1024x2048 y = x1 (ix2 (y 0) 0) :=
    broadcastTo_apply _ _ _ _ fun b => by match b with | ⟨0, _⟩ => rfl | ⟨1, _⟩ => rfl
  have e3 : broadcastTo S1024x2048 x3 broadcasts_S1x2048_S1024x2048 y = x3 (ix2 0 (y 1)) :=
    broadcastTo_apply _ _ _ _ fun b => by match b with | ⟨0, _⟩ => rfl | ⟨1, _⟩ => rfl
  unfold epilogue
  rw [ValueIdx.truncf_apply, ValueIdx.addf_apply, ValueIdx.mulf_apply, ValueIdx.mulf_apply, ValueIdx.extf_apply, e1, e3]

/-- What the last reduction step of a block leaves in the output block: the whole result at each of its places. -/
theorem out_eq (c : Dev nD) (t : Fin cfg0.N) (h15 : t.val % 16 = 15) (y : S1024x2048.Idx) (i : Math.R2.Idx)
    (h0 : (i 0).val = 1024 * (t.val / 64) + (y 0).val) (h1 : (i 1).val = 2048 * (t.val / 16 % 4) + (y 1).val) :
    (outsAt0 (F := Ideal) m c t.val t.isLt).1 y
      = Math.rows (arrX m c) (arrA m c) (arrW m c) (arrB m c) (arrR m c) i := by
  have hs := scratch_eq m c t.val t.isLt y (i 0) (i 1) h0 h1
  rw [outsAt0_C m c t (by omega) (by omega) h15] at hs ⊢
  dsimp only at hs ⊢
  rw [scratch_C, h15] at hs
  rw [out_C, epilogue_apply, hs, blk1 m c t (ix2 (y 0) 0) (ix2 (i 0) 0) h0, blk3 m c t (ix2 0 (y 1)) (ix2 0 (i 1)) h1,
    blk4 m c t y i h0 h1]
  rfl

/-- The output array as the run leaves it. -/
abbrev final (c : Dev nD) : Buf (Elt Ideal) ((c : Thread nD τ).loc main_v4) :=
  Math.rows (arrX m c) (arrA m c) (arrW m c) (arrB m c) (arrR m c)

/-- What a point writes back to the output array is its block of the whole result. -/
theorem flushed_eq (c : Dev nD) (t : Fin cfg0.N) (hf : (cfg0.win 5).flush t = true) :
    (dats (F := Ideal) m 0 c).flushed 5 t = ((cfg0.win 5).blk t).view.read (Elt Ideal) (final m c) := by
  show (cfg0.win 5).cut (grid0.coords t) ((dats (F := Ideal) m 0 c).after 5 t) = _
  rw [after0_5]
  obtain ⟨e0, e1⟩ := idx5 t
  funext y
  show (outsAt0 (F := Ideal) m c t.val t.isLt).1 ((cfg0.win 5).xinj (grid0.coords t) y)
    = final m c (((cfg0.win 5).blk t).view.emb y)
  refine out_eq m c t ((flush0_5 t).mp hf) _ _ ?_ ?_
  · show win0_5.index t (0 : Fin 2) * 1024 + 1 * (y 0).val = 1024 * (t.val / 64) + (y 0).val
    rw [e0]; omega
  · show win0_5.index t (1 : Fin 2) * 2048 + 1 * (y 1).val = 2048 * (t.val / 16 % 4) + (y 1).val
    rw [e1]; omega

/-- An index of the array is in point `t`'s block iff each coordinate is in the block's range on its axis. -/
theorem mem_blk (t : Fin cfg0.N) (i : S8192x8192.Idx) :
    i ∈ ((cfg0.win 5).blk t).view.set ↔ ∀ a : Fin 2, win0_5.index t a * S1024x2048.size a ≤ (i a).val ∧ (i a).val < win0_5.index t a * S1024x2048.size a + S1024x2048.size a := by
  show i ∈ ((View.whole main_v4).slice (win0_5.rect t)).set ↔ _
  rw [View.set_slice_whole, Rect.mem_set_unit]
  exact Iff.rfl

/-- Every index of the array is in the block that some point writes back. -/
theorem covered (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  have ht : 64 * ((i 0).val / 1024) + 16 * ((i 1).val / 2048) + 15 < cfg0.N := by
    rw [show cfg0.N = 512 from N_0]; omega
  refine ⟨⟨_, ht⟩, (flush0_5 _).mpr (by dsimp only; omega), ?_⟩
  obtain ⟨e0, e1⟩ := idx5 ⟨_, ht⟩
  dsimp only at e0 e1
  rw [mem_blk]
  intro a
  match a with
  | ⟨0, _⟩ =>
    show win0_5.index _ (0 : Fin 2) * 1024 ≤ (i 0).val ∧ (i 0).val < win0_5.index _ (0 : Fin 2) * 1024 + 1024
    rw [e0]; omega
  | ⟨1, _⟩ =>
    show win0_5.index _ (1 : Fin 2) * 2048 ≤ (i 1).val ∧ (i 1).val < win0_5.index _ (1 : Fin 2) * 2048 + 2048
    rw [e1]; omega

/-- The output array after the run. -/
theorem final_eq (c : Dev nD) : (dats (F := Ideal) m 0 c).arrAt 5 cfg0.N = final m c :=
  (dats (F := Ideal) m 0 c).arrAt_eq_of_cover 5 (final m c) (flushed_eq m c) (fun i => covered i)

/-- The pipeline finds the activations reshaped to rows. -/
theorem arrX_eq (c : Dev nD) : arrX m c
    = shapeCast Math.X2 (m ((c : Thread nD τ).loc main_arg0) : Math.X3.Idx → EReal) shapeCasts_S4x2048x32768_S8192x32768 := by
  show StableHlo.after hostOps0 _ (Proc.devRef .tc main_v0) = _
  rw [hostOps0]; after_results; rfl

/-- The pipeline finds the row scales reshaped to rows. -/
theorem arrA_eq (c : Dev nD) : arrA m c
    = shapeCast Math.A2 (m ((c : Thread nD τ).loc main_arg1) : Math.A3.Idx → EReal) shapeCasts_S4x2048x1_S8192x1 := by
  show StableHlo.after hostOps0 _ (Proc.devRef .tc main_v1) = _
  rw [hostOps0]; after_results; rfl

/-- The pipeline finds the weights as launched. -/
theorem arrW_eq (c : Dev nD) : arrW m c = m ((c : Thread nD τ).loc main_arg2) := V_main_arg2 m c

/-- The pipeline finds the column scales as one row. -/
theorem arrB_eq (c : Dev nD) : arrB m c
    = shapeCast Math.B2 (m ((c : Thread nD τ).loc main_arg3) : Math.B1.Idx → EReal) shapeCasts_S8192_S1x8192 := by
  show StableHlo.after hostOps0 _ (Proc.devRef .tc main_v2) = _
  rw [hostOps0]; after_results; rfl

/-- The pipeline finds the residual reshaped to rows. -/
theorem arrR_eq (c : Dev nD) : arrR m c
    = shapeCast Math.R2 (m ((c : Thread nD τ).loc main_arg4) : Math.R3.Idx → EReal) shapeCasts_S4x2048x8192_S8192x8192 := by
  show StableHlo.after hostOps0 _ (Proc.devRef .tc main_v3) = _
  rw [hostOps0]; after_results; rfl

/-- The program's result, as a function of its arguments. -/
abbrev result (c : Dev nD) : Buf (Elt Ideal) ((c : Thread nD τ).loc main_v5) :=
  Math.down (m ((c : Thread nD τ).loc main_arg0)) (m ((c : Thread nD τ).loc main_arg1)) (m ((c : Thread nD τ).loc main_arg2))
    (m ((c : Thread nD τ).loc main_arg3)) (m ((c : Thread nD τ).loc main_arg4))

/-- After the last reshape the result holds the whole computation on the arguments. -/
theorem tail_eq (c : Dev nD) :
    Pipeline.afterTail₀ cfgs (dats (F := Ideal) m) 0 (V0 m) [hostOps1] c main_v5 = result m c := by
  have harr : Pipeline.withArrays (cfgs 0).spec c (V0 (F := Ideal) m c) (fun w => (dats (F := Ideal) m 0 c).arrAt w (cfgs 0).N)
      (Proc.devRef .tc main_v4) = (dats (F := Ideal) m 0 c).arrAt 5 cfg0.N :=
    Pipeline.withArrays_arr spec0 (by exact (by decide : Function.Injective (Pipeline.arrRef spec0))) c (V0 (F := Ideal) m c) (fun w => (dats (F := Ideal) m 0 c).arrAt w cfg0.N) 5
  unfold Pipeline.afterTail₀
  show StableHlo.after hostOps1 _ (Proc.devRef .tc main_v5) = _
  rw [hostOps1]; after_results
  rw [harr, final_eq]
  show shapeCast Math.R3 (Math.rows (arrX m c) (arrA m c) (arrW m c) (arrB m c) (arrR m c)) shapeCasts_S8192x8192_S4x2048x8192 = _
  rw [arrX_eq, arrA_eq, arrW_eq, arrB_eq, arrR_eq]
  exact Math.rows_reshape ..

/-- The run of the kernel program: its result holds the whole computation, its arguments are as launched. -/
theorem run : θ_run (defs (F := Ideal)) (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      ((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Val

end
-- ==== Proof.Ref.lean ====
/-
  What the reference leaves in its result over the extended reals: its one block product holds the whole contraction, and
  the array operations after it apply the scales and the residual entry by entry — `Math.down` of the arguments.
-/
module

public import proofs.«01_k».proof.Proof.Spec
public import proofs.«01_k».proof.Proof.Gen.ReferenceIdeal.Frame
public import Idealize.ShloMosaic.Lib.Tactic

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Both offsets of a whole-array access on two axes are zero. -/
theorem hz2 : (![0, 0] : Fin 2 → Nat) = fun _ => 0 := funext fun a => by fin_cases a <;> rfl
/-- All offsets of a whole-array access on three axes are zero. -/
theorem hz3 : (![0, 0, 0] : Fin 3 → Nat) = fun _ => 0 := funext fun a => by fin_cases a <;> rfl

/-- The product over the extended reals, at a place: the sum of the 32768 products of its row and column. -/
theorem out_apply (x : Vec Ideal S4x2048x32768 .fp8e4m3) (w : Vec Ideal S32768x8192 .fp8e4m3) (j : S4x2048x8192.Idx) :
    out0_2 x w j = ∑ k : Fin 32768, (x (ix3 (j 0) (j 1) k) : EReal) * w (ix2 k (j 2)) := by
  unfold out0_2
  rw [View.canon_unit_zero hz3]
  simp only [View.ld_unit_zero (S := S4x2048x32768) hz3, View.ld_unit_zero (S := S32768x8192) hz2]
  unfold k0_pay1
  pointwise

/-- The activations' one block is the whole array. -/
theorem blk0 (c : Dev nD) (t : Fin cfg0.N) :
    iblk (F := Ideal) m c 0 t = (m ((c : Thread nD τ).loc main_arg0) : S4x2048x32768.Idx → EReal) := by
  unfold iblk
  have hz' : (fun a => win0_0.index t a * main_arg0.ty.shape.size a) = fun _ => 0 :=
    funext fun a => by fin_cases a <;> exact Nat.zero_mul _
  exact Memref.read_access_unit_zero (Elt Ideal) main_arg0 hz' (fun a => by rw [congrFun hz' a]; simp) _

/-- The weights' one block is the whole array. -/
theorem blk1 (c : Dev nD) (t : Fin cfg0.N) :
    iblk (F := Ideal) m c 1 t = (m ((c : Thread nD τ).loc main_arg2) : S32768x8192.Idx → EReal) := by
  unfold iblk
  have hz' : (fun a => win0_1.index t a * main_arg2.ty.shape.size a) = fun _ => 0 :=
    funext fun a => by fin_cases a <;> exact Nat.zero_mul _
  exact Memref.read_access_unit_zero (Elt Ideal) main_arg2 hz' (fun a => by rw [congrFun hz' a]; simp) _

/-- The product array: the contraction of the activations and the weights. -/
abbrev prod (c : Dev nD) : Buf (Elt Ideal) ((c : Thread nD τ).loc main_v0) :=
  out0_2 (F := Ideal) (m ((c : Thread nD τ).loc main_arg0)) (m ((c : Thread nD τ).loc main_arg2))

/-- What is written back to the product array is the whole product. -/
theorem flushed_eq (c : Dev nD) (t : Fin cfg0.N) (hf : (cfg0.win 2).flush t = true) :
    (dats (F := Ideal) m 0 c).flushed 2 t = ((cfg0.win 2).blk t).view.read (Elt Ideal) (prod m c) := by
  show (cfg0.win 2).cut (grid0.coords t) ((dats (F := Ideal) m 0 c).after 2 t) = _
  rw [after0_2, blk0, blk1]
  have hz' : (fun a => win0_2.index t a * main_v0.ty.shape.size a) = fun _ => 0 :=
    funext fun a => by fin_cases a <;> exact Nat.zero_mul _
  exact (Memref.read_access_unit_zero (Elt Ideal) main_v0 hz' (fun a => by rw [congrFun hz' a]; simp) (prod m c)).symm

/-- Every index of the product array is in its one block. -/
theorem covered (t : Fin cfg0.N) (i : S4x2048x8192.Idx) : i ∈ ((cfg0.win 2).blk t).view.set := by
  show i ∈ ((View.whole main_v0).slice (win0_2.rect t)).set
  rw [View.set_slice_whole, Rect.mem_set_unit]
  intro a
  have h0 : (i 0 : Nat) < 4 := (i 0).isLt
  have h1 : (i 1 : Nat) < 2048 := (i 1).isLt
  have h2 : (i 2 : Nat) < 8192 := (i 2).isLt
  match a with
  | ⟨0, _⟩ => show 0 * 4 ≤ (i 0 : Nat) ∧ (i 0 : Nat) < 0 * 4 + 4; omega
  | ⟨1, _⟩ => show 0 * 2048 ≤ (i 1 : Nat) ∧ (i 1 : Nat) < 0 * 2048 + 2048; omega
  | ⟨2, _⟩ => show 0 * 8192 ≤ (i 2 : Nat) ∧ (i 2 : Nat) < 0 * 8192 + 8192; omega

/-- The product array after the run. -/
theorem final_eq (c : Dev nD) : (dats (F := Ideal) m 0 c).arrAt 2 cfg0.N = prod m c :=
  (dats (F := Ideal) m 0 c).arrAt_eq_of_cover 2 (prod m c) (flushed_eq m c) fun i =>
    ⟨(⟨0, by decide⟩ : Fin grid0.N), by decide +kernel, covered _ i⟩

/-- The array operations after the product, as one expression. -/
def tail (p : FVec Ideal S4x2048x8192 .f32) (xs : FVec Ideal S4x2048x1 .f32) (ws : FVec Ideal S8192 .f32)
    (res : FVec Ideal S4x2048x8192 .bf16) : FVec Ideal S4x2048x8192 .bf16 :=
  truncf .bf16 (addf (mulf (mulf p (broadcastInDim S4x2048x8192 ![0, 1, 2] bcast_S4x2048x1_S4x2048x8192_0_1_2 xs))
    (broadcastInDim S4x2048x8192 ![0, 1, 2] bcast_S1x1x8192_S4x2048x8192_0_1_2
      (broadcastInDim S1x1x8192 ![2] bcast_S8192_S1x1x8192_2 ws))) (extf .f32 res bitsLt_bf16_f32)) bitsLt_bf16_f32

/-- They apply the scales and the residual entry by entry: on the product they give the whole computation. -/
theorem tail_eq (x : Vec Ideal S4x2048x32768 .fp8e4m3) (xs : Vec Ideal S4x2048x1 .f32) (w : Vec Ideal S32768x8192 .fp8e4m3)
    (ws : Vec Ideal S8192 .f32) (res : Vec Ideal S4x2048x8192 .bf16) :
    tail (out0_2 x w) xs ws res = Math.down x xs w ws res := by
  funext j
  have ea : broadcastInDim S4x2048x8192 ![0, 1, 2] bcast_S4x2048x1_S4x2048x8192_0_1_2 xs j = xs (ix3 (j 0) (j 1) 0) :=
    broadcastInDim_apply _ _ _ _ _ fun b => by match b with | ⟨0, _⟩ => rfl | ⟨1, _⟩ => rfl | ⟨2, _⟩ => rfl
  have eb : broadcastInDim S4x2048x8192 ![0, 1, 2] bcast_S1x1x8192_S4x2048x8192_0_1_2
      (broadcastInDim S1x1x8192 ![2] bcast_S8192_S1x1x8192_2 ws) j = ws (ix1 (j 2)) :=
    (broadcastInDim_apply _ _ _ j (ix3 0 0 (j 2)) fun b => by
      match b with | ⟨0, _⟩ => rfl | ⟨1, _⟩ => rfl | ⟨2, _⟩ => rfl).trans
    (broadcastInDim_apply _ _ _ _ (ix1 (j 2)) fun b => by match b with | ⟨0, _⟩ => rfl)
  unfold tail
  rw [ValueIdx.truncf_apply, ValueIdx.addf_apply, ValueIdx.mulf_apply, ValueIdx.mulf_apply, ValueIdx.extf_apply, ea, eb, out_apply]
  rfl

/-- The program's result, as a function of its arguments. -/
abbrev result (c : Dev nD) : Buf (Elt Ideal) ((c : Thread nD τ).loc main_v8) :=
  Math.down (m ((c : Thread nD τ).loc main_arg0)) (m ((c : Thread nD τ).loc main_arg1)) (m ((c : Thread nD τ).loc main_arg2))
    (m ((c : Thread nD τ).loc main_arg3)) (m ((c : Thread nD τ).loc main_arg4))

/-- After the last array operation the result holds the whole computation on the arguments. -/
theorem after_eq (c : Dev nD) :
    Pipeline.afterTail₀ cfgs (dats (F := Ideal) m) 0 (V0 m) [hostOps1] c main_v8 = result m c := by
  have h0 : Pipeline.withArrays (cfgs 0).spec c (V0 (F := Ideal) m c) (fun w => (dats (F := Ideal) m 0 c).arrAt w (cfgs 0).N)
      (Proc.devRef .tc main_v0) = (dats (F := Ideal) m 0 c).arrAt 2 cfg0.N :=
    Pipeline.withArrays_arr spec0 (by exact (by decide : Function.Injective (Pipeline.arrRef spec0))) c (V0 (F := Ideal) m c)
      (fun w => (dats (F := Ideal) m 0 c).arrAt w cfg0.N) 2
  have h1 : Pipeline.withArrays (cfgs 0).spec c (V0 (F := Ideal) m c) (fun w => (dats (F := Ideal) m 0 c).arrAt w (cfgs 0).N)
      (Proc.devRef .tc main_arg1) = m ((c : Thread nD τ).loc main_arg1) :=
    Pipeline.withArrays_of_ne _ c (V0 m c) _ main_arg1 (by exact (by decide : ∀ w, Pipeline.arrRef spec0 w ≠ main_arg1))
  have h3 : Pipeline.withArrays (cfgs 0).spec c (V0 (F := Ideal) m c) (fun w => (dats (F := Ideal) m 0 c).arrAt w (cfgs 0).N)
      (Proc.devRef .tc main_arg3) = m ((c : Thread nD τ).loc main_arg3) :=
    Pipeline.withArrays_of_ne _ c (V0 m c) _ main_arg3 (by exact (by decide : ∀ w, Pipeline.arrRef spec0 w ≠ main_arg3))
  have h4 : Pipeline.withArrays (cfgs 0).spec c (V0 (F := Ideal) m c) (fun w => (dats (F := Ideal) m 0 c).arrAt w (cfgs 0).N)
      (Proc.devRef .tc main_arg4) = m ((c : Thread nD τ).loc main_arg4) :=
    Pipeline.withArrays_of_ne _ c (V0 m c) _ main_arg4 (by exact (by decide : ∀ w, Pipeline.arrRef spec0 w ≠ main_arg4))
  unfold Pipeline.afterTail₀
  show StableHlo.after hostOps1 _ (Proc.devRef .tc main_v8) = _
  rw [hostOps1]; after_results
  rw [h0, h1, h3, h4, final_eq]
  exact tail_eq _ _ _ _ _

/-- The run of the reference: its result holds the whole computation, its arguments are as launched. -/
theorem run : θ_run (defs (F := Ideal)) (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      ((h c).2 main_v8 (Pipeline.mem_restRefs_of main_v8 (by decide) (by decide))).trans (after_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Val

end
-- ==== Proof.lean ====
/-
  The proof of `Cert.Claim`: the three frames are the generated ones, nothing was rewritten between the kernel and its
  ideal program, and the algebraic claim sets the kernel's run (Proof/Result.lean) beside the reference's
  (Proof/Ref.lean): both end with `Math.down` (Proof/Spec.lean) of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Result
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The equation: on equal arguments the kernel and the reference end with the same result, the scaled contraction plus the
    residual (`Math.down`), each leaving its arguments as launched. -/
theorem algebraic : algebraic_KernelIdeal_ReferenceIdeal (hKernelIdeal := Cert.KernelIdeal.Gen.facts)
    (hReferenceIdeal := Cert.ReferenceIdeal.Gen.facts) := by
  intro m g m' g' _ hargs
  refine ⟨Cert.KernelIdeal.Val.result m, Cert.KernelIdeal.Val.run m g, ?_⟩
  refine (θ_run _ _ _).mono (fun r h c => ⟨(h c).1.trans ?_, (h c).2⟩) (Cert.ReferenceIdeal.Val.run m' g')
  obtain ⟨e0, e1, e2, e3, e4⟩ := hargs c
  show Math.down _ _ _ _ _ = Math.down _ _ _ _ _
  rw [e0, e1, e2, e3, e4]

/-- Everything claimed: the three programs run to completion, leave their arguments and every semaphore as launched; the
    ideal program changes nothing; and the ideal kernel computes what the ideal reference computes. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
